-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x256 : Shape := ⟨2, ![512, 256]⟩
abbrev S_ : Shape := ⟨0, ![]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .local _ .vmem, ⟨0, _⟩ => ⟨S256x512, .f32⟩
  | .local _ .vmem, ⟨1, _⟩ => ⟨S512x256, .f32⟩
  | _, _ => ⟨S256x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_7 : BitVec 32 := 0#32
  let v12 : BitVec 1 := Scalar.cmpi .eq v5 c0_i32_7
  let v13 : BitVec 32 := Scalar.extui v12
  let c0_i32_8 : BitVec 32 := 0#32
  let v14 : BitVec 1 := Scalar.cmpi .ne v13 c0_i32_8
  v14

def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v18 : BitVec 32 := Scalar.muli v2 c2_i32_12
  let v19 : BitVec 32 := Scalar.addi c0_i32_13 v18
  let c1_i32_11 : BitVec 32 := 1#32
  let c1_i32_14 : BitVec 32 := 1#32
  let v20 : BitVec 32 := Scalar.muli c1_i32_11 c1_i32_14
  let v21 : BitVec 32 := Scalar.addi v19 v20
  v21.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v15 : BitVec 1 := Scalar.cmpi .eq v5 c1_i32_9
  let v16 : BitVec 32 := Scalar.extui v15
  let c0_i32_10 : BitVec 32 := 0#32
  let v17 : BitVec 1 := Scalar.cmpi .ne v16 c0_i32_10
  v17

def k0_dev3 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v18 : BitVec 32 := Scalar.muli v2 c2_i32_12
  let v19 : BitVec 32 := Scalar.addi c0_i32_13 v18
  let c0_i32_11 : BitVec 32 := 0#32
  let c1_i32_14 : BitVec 32 := 1#32
  let v20 : BitVec 32 := Scalar.muli c0_i32_11 c1_i32_14
  let v21 : BitVec 32 := Scalar.addi v19 v20
  v21.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Shared.Halves.lean ====
/-
# Halves of the two blocks, and the array they are stitched into

Each device holds a 256×512 block of an array and ends with a 512×256 one. Both are cut in two
256×256 halves named by a `Bool`: the input along its columns, the output along its rows, `false`
the first half and `true` the second. This module has the two cuts as rectangles, the facts that
each pair of halves is a partition, and the output block as a function of the two input blocks
whose halves it is made of. Nothing here speaks of devices, semaphores or the program.
-/
module

public import Idealize.ShloMosaic.Lib.Pointwise.Index
public import Idealize.ShloMosaic.Lib.Pipeline.ValueKit.Geometry
public import Idealize.ShloMosaic.Lib.Layout

@[expose] public section

namespace Cert.Halves

open Idealize.ShloMosaic

/-- A 256×512 block: what a device starts with. -/
abbrev Wide : Shape := ⟨2, ![256, 512]⟩
/-- A 512×256 block: what a device ends with. -/
abbrev Tall : Shape := ⟨2, ![512, 256]⟩
/-- A 256×256 half of either. -/
abbrev Square : Shape := ⟨2, ![256, 256]⟩

/-- The first coordinate of a half along the axis that is cut. -/
abbrev lo (h : Bool) : ℕ := bif h then 256 else 0

/-- A column half lies within the 256×512 block. -/
theorem cols_inb (h : Bool) : ∀ a, (![0, lo h] : Fin 2 → ℕ) a + Square.size a ≤ Wide.size a := by
  cases h <;> decide
/-- A row half lies within the 512×256 block. -/
theorem rows_inb (h : Bool) : ∀ a, (![lo h, 0] : Fin 2 → ℕ) a + Square.size a ≤ Tall.size a := by
  cases h <;> decide

/-- The half of the columns of a 256×512 block that `h` names. -/
abbrev cols (h : Bool) : Rect Wide := Rect.unit (s := Wide) ![0, lo h] Square.size (cols_inb h)
/-- The half of the rows of a 512×256 block that `h` names. -/
abbrev rows (h : Bool) : Rect Tall := Rect.unit (s := Tall) ![lo h, 0] Square.size (rows_inb h)

/-- An index lies in a column half exactly when its column does. -/
theorem mem_cols (h : Bool) (i : Wide.Idx) : i ∈ (cols h).set ↔ lo h ≤ (i 1).val ∧ (i 1).val < lo h + 256 := by
  rw [Rect.mem_set_unit, Fin.forall_fin_two]
  have h0 : (i 0).val < 256 := (i 0).isLt
  exact ⟨fun hi => hi.2, fun hi => ⟨⟨Nat.zero_le _, by show (i 0).val < 0 + 256; omega⟩, hi⟩⟩

/-- An index lies in a row half exactly when its row does. -/
theorem mem_rows (h : Bool) (i : Tall.Idx) : i ∈ (rows h).set ↔ lo h ≤ (i 0).val ∧ (i 0).val < lo h + 256 := by
  rw [Rect.mem_set_unit, Fin.forall_fin_two]
  have h1 : (i 1).val < 256 := (i 1).isLt
  exact ⟨fun hi => hi.1, fun hi => ⟨hi, ⟨Nat.zero_le _, by show (i 1).val < 0 + 256; omega⟩⟩⟩

/-- A half and the other one have no column in common, -/
theorem cols_disjoint (h : Bool) : Disjoint (cols h).set (cols !h).set :=
  Finset.disjoint_left.mpr fun i hi hj => by
    rw [mem_cols] at hi hj
    cases h <;> simp only [lo, Bool.not_true, Bool.not_false, cond_true, cond_false] at hi hj <;> omega

/-- and between them have all columns. -/
theorem cols_union (h : Bool) : (cols h).set ∪ (cols !h).set = Finset.univ :=
  Finset.eq_univ_of_forall fun i => by
    rw [Finset.mem_union, mem_cols, mem_cols]
    have h1 : (i 1).val < 512 := (i 1).isLt
    cases h <;> simp only [lo, Bool.not_true, Bool.not_false, cond_true, cond_false] <;> omega

/-- A half and the other one have no row in common, -/
theorem rows_disjoint (h : Bool) : Disjoint (rows h).set (rows !h).set :=
  Finset.disjoint_left.mpr fun i hi hj => by
    rw [mem_rows] at hi hj
    cases h <;> simp only [lo, Bool.not_true, Bool.not_false, cond_true, cond_false] at hi hj <;> omega

/-- and between them have all rows. -/
theorem rows_union (h : Bool) : (rows h).set ∪ (rows !h).set = Finset.univ :=
  Finset.eq_univ_of_forall fun i => by
    rw [Finset.mem_union, mem_rows, mem_rows]
    have h0 : (i 0).val < 512 := (i 0).isLt
    cases h <;> simp only [lo, Bool.not_true, Bool.not_false, cond_true, cond_false] <;> omega

variable {α : Type}

/-- The 512×256 block whose row half `b` is column half `h` of the 256×512 block `f b`. -/
def stitch (f : Bool → Wide.Idx → α) (h : Bool) : Tall.Idx → α := fun i =>
  f (decide (256 ≤ (i 0).val))
    (ix2 ⟨(i 0).val % 256, Nat.mod_lt _ (by decide)⟩
      ⟨lo h + (i 1).val, by have h1 : (i 1).val < 256 := (i 1).isLt; cases h <;> simp only [cond_true, cond_false] <;> omega⟩)

/-- Read in row half `b`, the stitched block is column half `h` of `f b`. -/
theorem stitch_rows (f : Bool → Wide.Idx → α) (h b : Bool) (j : Square.Idx) :
    stitch f h ((rows b).emb j) = f b ((cols h).emb j) := by
  have hj : (j 0).val < 256 := (j 0).isLt
  have e0 : ((rows b).emb j 0).val = lo b + (j 0).val := ValueKit.rect_emb_unit_val (s := Tall) ![lo b, 0] Square.size (rows_inb b) j 0
  have e1 : ((rows b).emb j 1).val = 0 + (j 1).val := ValueKit.rect_emb_unit_val (s := Tall) ![lo b, 0] Square.size (rows_inb b) j 1
  unfold stitch
  congr 1
  · rw [e0]; cases b <;> simp only [cond_true, cond_false, decide_eq_true_eq, decide_eq_false_iff_not] <;> omega
  · funext a
    refine Fin.ext ?_
    rw [show ((cols h).emb j a).val = (![0, lo h] : Fin 2 → ℕ) a + (j a).val from
      ValueKit.rect_emb_unit_val (s := Wide) ![0, lo h] Square.size (cols_inb h) j a]
    match a with
    | ⟨0, _⟩ =>
      show ((rows b).emb j 0).val % 256 = 0 + (j 0).val
      rw [e0]; cases b <;> simp only [cond_true, cond_false] <;> omega
    | ⟨1, _⟩ =>
      show lo h + ((rows b).emb j 1).val = lo h + (j 1).val
      rw [e1]; omega

/-- If the two 256×512 blocks are the upper and the lower half of a 512×512 array, the stitched
    block is column half `h` of that array. -/
theorem stitch_whole (v : (⟨2, ![512, 512]⟩ : Shape).Idx → α) (f : Bool → Wide.Idx → α) (h : Bool)
    (hf : ∀ b i, f b i = v (ix2 ⟨lo b + (i 0).val, by have h0 : (i 0).val < 256 := (i 0).isLt; cases b <;> simp only [cond_true, cond_false] <;> omega⟩ (i 1)))
    (i : Tall.Idx) :
    stitch f h i = v (ix2 (i 0) ⟨lo h + (i 1).val, by have h1 : (i 1).val < 256 := (i 1).isLt; cases h <;> simp only [cond_true, cond_false] <;> omega⟩) := by
  unfold stitch
  rw [hf]
  congr 1
  refine (ix2_inj _ _ _ _).mpr ⟨Fin.ext ?_, rfl⟩
  have h0 : (i 0).val < 512 := (i 0).isLt
  show lo (decide (256 ≤ (i 0).val)) + (i 0).val % 256 = (i 0).val
  by_cases hc : 256 ≤ (i 0).val
  · rw [decide_eq_true hc]; simp only [cond_true]; omega
  · rw [decide_eq_false hc]; simp only [cond_false]; omega

end Cert.Halves
-- ==== Proof.KernelIdeal.Blocks.lean ====
/-
# The two devices of a pair, their buffers and what the exchange leaves in them

The mesh is 2×2; device `c` has first coordinate `c / 2` and second coordinate `c % 2`. The
exchange is between the two devices with one first coordinate. A device's input buffer is 256×512,
its output buffer 512×256. With `side c` its second coordinate as a `Bool`, device `c`

* sends column half `!side c` of its input into row half `side c` of its partner's output, and
* copies column half `side c` of its input into row half `side c` of its own output.

This module names the buffers and their halves, gives the output's final contents in one formula,
and shows that the transfer and the store each write that formula on their own half.
-/
module

public import proofs.«01_k».proof.Proof.Shared.Halves
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Swap

open Cert.KernelIdeal.Gen Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-! ## The pair -/

/-- The partner's number is a device number. -/
theorem partner_lt (c : Dev nD) : (2 * (c.val / 2) + 1) - c.val % 2 < nD := by
  revert c; decide

/-- The device that differs from `c` in the second mesh coordinate. -/
def partner (c : Dev nD) : Dev nD := ⟨(2 * (c.val / 2) + 1) - c.val % 2, partner_lt c⟩

/-- The second mesh coordinate. -/
def side (c : Dev nD) : Bool := decide (c.val % 2 = 1)

/-- A device is its partner's partner. -/
theorem partner_partner (c : Dev nD) : partner (partner c) = c := by revert c; decide
/-- Partners are on different sides. -/
theorem side_partner (c : Dev nD) : side (partner c) = !side c := by revert c; decide

/-- Swapping the partners is a permutation of the devices. -/
def pairing : Dev nD ≃ Dev nD := ⟨partner, partner, partner_partner, partner_partner⟩

/-- The device of `c`'s pair that has second coordinate `b`. -/
def member (c : Dev nD) (b : Bool) : Dev nD := if b = side c then c else partner c

/-- The pair's device on `c`'s own side is `c`; -/
theorem member_side (c : Dev nD) : member c (side c) = c := if_pos rfl
/-- the one on the other side is its partner. -/
theorem member_not_side (c : Dev nD) : member c (!side c) = partner c := if_neg (by cases side c <;> decide)

/-- The barrier signal names the partner. -/
theorem dev1_eq (c : Dev nD) : (⟨k0_dev1 c, k0_dev1_lt c⟩ : Dev nD) = partner c := Fin.ext (k0_dev1_eq c)

/-- On second coordinate 0 the first branch is taken and its transfer names the partner; -/
theorem cond1_iff (c : Dev nD) : k0_cond1 c = 1#1 ↔ side c = false := by revert c; decide
theorem dev2_eq (c : Dev nD) (h : k0_cond1 c = 1#1) : (⟨k0_dev2 c, k0_dev2_lt c h⟩ : Dev nD) = partner c := by
  revert c; decide
/-- on second coordinate 1 it is the second branch. -/
theorem cond2_iff (c : Dev nD) : k0_cond2 c = 1#1 ↔ side c = true := by revert c; decide
theorem dev3_eq (c : Dev nD) (h : k0_cond2 c = 1#1) : (⟨k0_dev3 c, k0_dev3_lt c h⟩ : Dev nD) = partner c := by
  revert c; decide

/-! ## The buffers and their halves -/

/-- The input buffer, the output buffer. -/
abbrev xM : Memref sig .tc .vmem S256x512 .f32 := Memref.whole cc0_stg0_0
abbrev oM : Memref sig .tc .vmem S512x256 .f32 := Memref.whole cc0_stg1_0

/-- Column half `h` of the input buffer, row half `h` of the output buffer. -/
abbrev xHalf (h : Bool) : Memref sig .tc .vmem S256x256 .f32 := xM.slice (cols h) (fun _ => rfl)
abbrev oHalf (h : Bool) : Memref sig .tc .vmem S256x256 .f32 := oM.slice (rows h) (fun _ => rfl)

/-- The elements of a half of the input buffer are the column half's. -/
theorem xHalf_set (h : Bool) : (xHalf h).view.set = (cols h).set := View.set_slice_whole cc0_stg0_0 (cols h)
/-- The elements of a half of the output buffer are the row half's. -/
theorem oHalf_set (h : Bool) : (oHalf h).view.set = (rows h).set := View.set_slice_whole cc0_stg1_0 (rows h)

/-- The credit of a transfer of one half. -/
abbrev N : ℕ := (oHalf false).view.dmaCredit
/-- A transfer of one half has some credit, -/
theorem N_pos : 0 < N := View.dmaCredit_pos _ (by decide)
/-- the same for every half of the output -/
theorem credit_oHalf (h : Bool) : (oHalf h).view.dmaCredit = N := by cases h <;> rfl
/-- and of the input. -/
theorem credit_xHalf (h : Bool) : (xHalf h).view.dmaCredit = N := by cases h <;> rfl

/-! ## Contents -/

/-- Writing column half `h` of `f b` over row half `b` of any output block gives, on that half, the
    stitched block of the two blocks `f`. -/
theorem write_half (f : Bool → S256x512.Idx → Elt F .f32) (h b : Bool) (g : (cc0_stg1_0 : Ref sig .tc).ty.Contents (Elt F))
    (i : S512x256.Idx) (hi : i ∈ (oHalf b).view.set) :
    (oHalf b).view.write (Elt F) g ((xHalf h).view.read (Elt F) (f b)) Finset.univ i = stitch f h i := by
  obtain ⟨j, -, rfl⟩ := Finset.mem_map.mp hi
  exact (View.write_emb_of_mem (v := (oHalf b).view) (Val := Elt F) g _ (Finset.mem_univ j)).trans (stitch_rows f h b j).symm

variable (m : (ℓ : Loc nD τ sig) → Buf (Elt F) ℓ)

/-- The input block of device `c`. -/
def xIn (c : Dev nD) : (cc0_stg0_0 : Ref sig .tc).ty.Contents (Elt F) := m ((c : Thread nD τ).loc main_arg0)

/-- The output block of device `c`: its row half `b` is column half `side c` of the input block of
    the pair's device on side `b`. -/
def xOut (c : Dev nD) : (cc0_stg1_0 : Ref sig .tc).ty.Contents (Elt F) := stitch (fun b => xIn m (member c b)) (side c)

/-- What the partner's transfer writes into `c`'s output is `c`'s output block on the partner's half. -/
theorem landed_eq (c : Dev nD) (g : (cc0_stg1_0 : Ref sig .tc).ty.Contents (Elt F)) (i : S512x256.Idx)
    (hi : i ∈ (oHalf !side c).view.set) :
    (oHalf !side c).view.write (Elt F) g ((xHalf (side c)).view.read (Elt F) (xIn m (partner c))) Finset.univ i = xOut m c i := by
  have h := write_half (fun b => xIn m (member c b)) (side c) (!side c) g i hi
  simp only [member_not_side] at h
  exact h

/-- What `c` stores into its own output is its output block on its own half. -/
theorem stored_eq (c : Dev nD) (g : (cc0_stg1_0 : Ref sig .tc).ty.Contents (Elt F)) (i : S512x256.Idx)
    (hi : i ∈ (oHalf (side c)).view.set) :
    (oHalf (side c)).view.write (Elt F) g ((xHalf (side c)).view.read (Elt F) (xIn m c)) Finset.univ i = xOut m c i := by
  have h := write_half (fun b => xIn m (member c b)) (side c) (side c) g i hi
  simp only [member_side] at h
  exact h

end Cert.KernelIdeal.Swap
-- ==== Proof.KernelIdeal.Protocol.lean ====
/-
# Who waits for what: the exchange's semaphores, duty by duty

Every device has three semaphores in the exchange, numbered by `Fin 3`:

* 0, the barrier: its partner signals it one unit, and by that hands over the row half of the
  partner's output which this device is going to write, with whatever contents it has;
* 1, the send semaphore: the device's own transfer credits it when the source has been read, and
  hands back the column half of its input that was sent;
* 2, the receive semaphore: the partner's transfer credits it, and hands over the row half of this
  device's output that the transfer wrote, with its final contents.

Each is waited on once, by the device it belongs to, for all its units: so one round with one duty
per semaphore. The waits are well founded: a device that waits at the barrier owes only a receive
semaphore, which ranks higher, and a device that waits for a transfer owes nothing.
-/
module

public import proofs.«01_k».proof.Proof.KernelIdeal.Blocks

@[expose] public section

noncomputable section

namespace Cert.KernelIdeal.Swap

open Cert.KernelIdeal.Gen Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The ghost state: one copy of the rounds algebra for the staging transfers, one for the exchange. -/
abbrev Ghost : Type := UR sig nD τ × UR sig nD τ

local notation "𝕄" => MT nD τ sig Unit (Elt F) ℕ Ghost ℕ

/-- The staging transfers' copy. -/
abbrev EStage : Emb (UR sig nD τ) (MT nD τ sig Unit (Elt F) ℕ Ghost ℕ) := embL
/-- The exchange's copy. -/
abbrev ESwap : Emb (UR sig nD τ) (MT nD τ sig Unit (Elt F) ℕ Ghost ℕ) := embR

/-! ## The semaphores -/

abbrev barS : Sem sig := (SemArray.scalar (sig.barrier 0 rfl) : Sems sig S_).sem
abbrev sendS : DmaSem sig := (cc0_scratch0 : DmaSems sig S_).sem
abbrev recvS : DmaSem sig := (cc0_scratch1 : DmaSems sig S_).sem

/-- The three semaphores of the exchange. -/
abbrev port : Fin 3 → SemLoc sig := fun | 0 => .reg barS | 1 => .dma sendS | 2 => .dma recvS

/-- Device `c`'s semaphore `k`. -/
abbrev cell (c : Dev nD) (k : Fin 3) : GSem nD τ sig := ((c : Thread nD τ), port k)

/-- The three semaphores are different. -/
theorem port_injective : Function.Injective port := by decide

/-- Which of the three a semaphore is, if any. -/
def which (s : SemLoc sig) : Option (Fin 3) :=
  if s = port 0 then some 0 else if s = port 1 then some 1 else if s = port 2 then some 2 else none

/-- The number of semaphore `k` is `k`. -/
theorem which_port (k : Fin 3) : which (port k) = some k := by revert k; decide

/-- Different devices or numbers give different semaphores. -/
theorem cell_injective : Function.Injective fun p : Dev nD × Fin 3 => cell p.1 p.2 := by
  rintro ⟨c, k⟩ ⟨d, l⟩ h
  exact Prod.ext (Fin.ext (congrArg (fun g : GSem nD τ sig => g.1.1.val) h)) (port_injective (congrArg Prod.snd h))

/-- The units semaphore `k` gets in all. -/
def units : Fin 3 → ℕ := fun | 0 => 1 | 1 => N | 2 => N

/-- Every semaphore expects at least one unit. -/
theorem units_pos (k : Fin 3) : 0 < units k :=
  match k with | 0 => Nat.one_pos | 1 => N_pos | 2 => N_pos

/-! ## What the semaphores hand over -/

variable (m : (ℓ : Loc nD τ sig) → Buf (Elt F) ℓ)

/-- Column half `h` of device `c`'s input buffer, with `c`'s input block in it. -/
def xHas (c : Dev nD) (h : Bool) : sProp 𝕄 :=
  (xHalf h).view.loc (c : Thread nD τ) ↦[(xHalf h).view.set]{fullShare} xIn m c

/-- Row half `h` of device `c`'s output buffer, with the contents `g` in it. -/
def oHas (c : Dev nD) (h : Bool) (g : (cc0_stg1_0 : Ref sig .tc).ty.Contents (Elt F)) : sProp 𝕄 :=
  (oHalf h).view.loc (c : Thread nD τ) ↦[(oHalf h).view.set]{fullShare} g

/-- Ownership of a half of the input may be kept with a semaphore; -/
instance xHas_storable (c : Dev nD) (h : Bool) : BI.Storable (upEmb : UEmb _ 𝕄) (xHas m c h) := by
  unfold xHas; infer_instance
/-- so may ownership of a half of the output, -/
instance oHas_storable (c : Dev nD) (h : Bool) (g) : BI.Storable (upEmb : UEmb _ 𝕄) (oHas (F := F) c h g) := by
  unfold oHas; infer_instance

/-- The input buffer is its two column halves. -/
theorem x_split (c : Dev nD) (h : Bool) :
    (((c : Thread nD τ).loc cc0_stg0_0) ↦{fullShare} xIn m c : sProp 𝕄) = iprop(xHas m c h ∗ xHas m c !h) := by
  unfold xHas
  rw [xHalf_set, xHalf_set]
  have hu := pointsTo_union (nD := nD) (τ := τ) (sig := sig) (Ix := Unit) (Val := Elt F) (Name := ℕ) (U := Ghost) (Lvl := ℕ)
    (ℓ := (c : Thread nD τ).loc cc0_stg0_0) (q := fullShare) (f := xIn m c) (cols_disjoint h)
  rw [cols_union] at hu
  exact (equiv_iff (M := MT nD τ sig Unit (Elt F) ℕ Ghost ℕ)).mp ⟨hu.1, hu.2⟩

/-- The output buffer, at one contents, is its two row halves. -/
theorem o_split (c : Dev nD) (h : Bool) (g : (cc0_stg1_0 : Ref sig .tc).ty.Contents (Elt F)) :
    (((c : Thread nD τ).loc cc0_stg1_0) ↦{fullShare} g : sProp 𝕄) = iprop(oHas c h g ∗ oHas c (!h) g) := by
  unfold oHas
  rw [oHalf_set, oHalf_set]
  have hu := pointsTo_union (nD := nD) (τ := τ) (sig := sig) (Ix := Unit) (Val := Elt F) (Name := ℕ) (U := Ghost) (Lvl := ℕ)
    (ℓ := (c : Thread nD τ).loc cc0_stg1_0) (q := fullShare) (f := g) (rows_disjoint h)
  rw [rows_union] at hu
  exact (equiv_iff (M := MT nD τ sig Unit (Elt F) ℕ Ghost ℕ)).mp ⟨hu.1, hu.2⟩

/-- What device `c` gets by waiting on its semaphore `k`. -/
def hand (c : Dev nD) : Fin 3 → sProp 𝕄 := fun
  | 0 => iprop(∃ g, oHas (partner c) (side c) g)
  | 1 => xHas m c (!side c)
  | 2 => oHas c (!side c) (xOut m c)

/-- The barrier hands over the half of the partner's output that this device writes; -/
theorem hand_bar (c : Dev nD) : hand m c 0 = iprop(∃ g, oHas (partner c) (side c) g) := rfl
/-- the send semaphore the half of the input that was sent; -/
theorem hand_send (c : Dev nD) : hand m c 1 = xHas m c !side c := rfl
/-- the receive semaphore the half of the output that the partner wrote. -/
theorem hand_recv (c : Dev nD) : hand m c 2 = oHas c (!side c) (xOut m c) := rfl

/-- and what each semaphore hands over. -/
instance hand_storable (c : Dev nD) (k : Fin 3) : BI.Storable (upEmb : UEmb _ 𝕄) (hand m c k) := by
  unfold hand; split <;> infer_instance

/-! ## The schedule -/

/-- One round: semaphore `k` of each device has one duty, of all its units, and hands over `hand`. -/
def plan : Rounds.Schedule (GSem nD τ sig) Unit 𝕄 where
  duties g r := if r = 0 ∧ g.1.2 = .tc ∧ (which g.2).isSome then {()} else ∅
  amount g _ _ := (which g.2).elim 1 units
  payload g _ _ := (which g.2).elim iprop(emp) (hand m g.1.1)
  amount_pos g _ _ _ := by
    cases which g.2 with
    | none => exact Nat.one_pos
    | some k => exact units_pos k

/-- What the plan hands over may be kept with the semaphores. -/
instance plan_storable (g : GSem nD τ sig) (r : ℕ) (d : Unit) :
    BI.Storable (upEmb : UEmb _ 𝕄) ((plan m).payload g r d) := by
  show BI.Storable (upEmb : UEmb _ 𝕄) ((which g.2).elim iprop(emp) (hand m g.1.1))
  cases which g.2 with
  | none => exact (inferInstance : BI.Storable (upEmb : UEmb _ 𝕄) iprop(emp))
  | some k => exact hand_storable m g.1.1 k

section Tables
variable (c : Dev nD) (k : Fin 3)

/-- Each semaphore has its one duty in round 0, -/
theorem duties_cell : (plan m).duties (cell c k) 0 = {()} := by
  dsimp only [plan]
  exact if_pos ⟨rfl, rfl, by rw [which_port]; rfl⟩
/-- to which that duty belongs, -/
theorem mem_duties : () ∈ (plan m).duties (cell c k) 0 := by rw [duties_cell]; exact Finset.mem_singleton_self _
/-- and none later. -/
theorem no_later (g : GSem nD τ sig) : ∀ r, 1 ≤ r → (plan m).duties g r = ∅ := fun r hr => by
  dsimp only [plan]
  exact if_neg fun h => by omega
/-- The duty is of all the units, -/
theorem amount_cell : (plan m).amount (cell c k) 0 () = units k := by
  dsimp only [plan]
  rw [which_port]; rfl
/-- hands over `hand`, -/
theorem payload_cell : (plan m).payload (cell c k) 0 () = hand m c k := by
  dsimp only [plan]
  rw [which_port]; rfl
/-- and is all the round expects. -/
theorem expect_cell : (plan m).expect (cell c k) 0 = units k := by
  unfold Schedule.expect Schedule.amountOf
  rw [duties_cell, Finset.sum_singleton, amount_cell]
/-- The wait for all units of semaphore `k` hands over `hand`. -/
theorem rest_cell : bigSep ((plan m).duties (cell c k) 0 \ ∅) (fun d => (plan m).payload (cell c k) 0 d) = hand m c k := by
  rw [Finset.sdiff_empty, duties_cell, bigSep_singleton, payload_cell]

end Tables

/-! ## What each device owes, and the ranks of the semaphores -/

/-- What device `c` owes after its signal: the units of its transfer, to its partner's receive semaphore. -/
def owedSend (c : Dev nD) : CellTallies nD τ sig Unit := tallyAt (cell (partner c) 2) () N
/-- What it owes at launch: that, and one unit to its partner's barrier. -/
def owed₀ (c : Dev nD) : CellTallies nD τ sig Unit := owedSend c + tallyAt (cell (partner c) 0) () 1

/-- The semaphores that have a rank: the TensorCores'. -/
def ranked (g : GSem nD τ sig) : Finset Unit := if g.1.2 = .tc then {()} else ∅
/-- Barriers rank 1, receive semaphores 2, all others 0. -/
def rank (g : GSem nD τ sig) (_ : Unit) : ℕ := (which g.2).elim 0 fun | 0 => 1 | 1 => 0 | 2 => 2

/-- No other core has a ranked semaphore; -/
theorem ranked_other (g : GSem nD τ sig) (h : g.1.2 ≠ .tc) : ranked g = ∅ := if_neg h
/-- every semaphore of a TensorCore is ranked. -/
theorem mem_ranked (c : Dev nD) (s : SemLoc sig) (u : Unit) : u ∈ ranked ((c : Thread nD τ), s) := by
  rw [show ranked ((c : Thread nD τ), s) = {()} from if_pos rfl]; exact Finset.mem_singleton_self _

/-- The ranks of the three semaphores. -/
theorem rank_cell (c : Dev nD) (k : Fin 3) (u : Unit) :
    rank (cell c k) u = (match k with | 0 => 1 | 1 => 0 | 2 => 2 : ℕ) := by
  unfold rank
  rw [which_port]; rfl

/-- After its signal a device owes at its partner's receive semaphore only; -/
theorem owedSend_pos {c : Dev nD} {g : GSem nD τ sig} {u : Unit} (h : 0 < owedSend c g u) : g = cell (partner c) 2 := by
  unfold owedSend at h
  rw [tallyAt_apply] at h
  by_contra hn
  rw [if_neg fun h' => hn h'.1] at h
  exact Nat.lt_irrefl 0 h
/-- at launch also at its partner's barrier. -/
theorem owed₀_pos {c : Dev nD} {g : GSem nD τ sig} {u : Unit} (h : 0 < owed₀ c g u) :
    g = cell (partner c) 2 ∨ g = cell (partner c) 0 := by
  unfold owed₀ at h
  rw [Pi.add_apply, Finsupp.add_apply] at h
  rcases Nat.pos_of_ne_zero (fun h0 => by rw [h0] at h; exact Nat.lt_irrefl 0 h) |> Nat.add_pos_iff_pos_or_pos.mp with h | h
  · exact .inl (owedSend_pos h)
  · rw [tallyAt_apply] at h
    by_contra hn
    rw [if_neg fun h' => hn (.inr h'.1)] at h
    exact Nat.lt_irrefl 0 h

/-- A device may wait on a semaphore of rank `n` while all it owes is at TensorCore semaphores of higher rank. -/
theorem mayWait_of_rank (c : Dev nD) (s : SemLoc sig) (O : CellTallies nD τ sig Unit) (n : ℕ)
    (hs : rank ((c : Thread nD τ), s) () ≤ n) (hO : ∀ g u, 0 < O g u → ∃ d k, g = cell d k ∧ n < rank (cell d k) u) :
    (levAts ranked rank : sProp 𝕄) ⊢ MayWait (c : Thread nD τ) s () O :=
  MayOwe.of_cut (L := ranked) (lev := rank) n
    (fun p hp => by rw [Finset.mem_singleton.mp hp]; exact mem_ranked c s ())
    (fun g u hg => by obtain ⟨d, k, rfl, -⟩ := hO g u hg; exact mem_ranked d _ u)
    (fun p hp => by rw [Finset.mem_singleton.mp hp]; exact hs)
    (fun g u hg => by obtain ⟨d, k, rfl, hk⟩ := hO g u hg; exact hk)

/-- The wait at the barrier. -/
theorem mayWait_barrier (c : Dev nD) : (levAts ranked rank : sProp 𝕄) ⊢ MayWait (c : Thread nD τ) (port 0) () (owedSend c) :=
  mayWait_of_rank c _ _ 1 (rank_cell c 0 ()).le fun g u hg =>
    ⟨partner c, 2, owedSend_pos hg, by rw [rank_cell]; exact Nat.lt_succ_self 1⟩

/-- The waits of the staging transfers, on semaphores that are none of the three. -/
theorem mayWait_staging (c : Dev nD) (q : DmaSem sig) (hq : which (.dma q) = none) (O : CellTallies nD τ sig Unit)
    (hO : O = owed₀ c ∨ O = 0) : (levAts ranked rank : sProp 𝕄) ⊢ MayWait (c : Thread nD τ) (.dma q) () O := by
  refine mayWait_of_rank c _ _ 0 (by unfold rank; rw [hq]; exact le_rfl) fun g u hg => ?_
  rcases hO with rfl | rfl
  · rcases owed₀_pos hg with rfl | rfl
    · exact ⟨partner c, 2, rfl, by rw [rank_cell]; exact Nat.two_pos⟩
    · exact ⟨partner c, 0, rfl, by rw [rank_cell]; exact Nat.one_pos⟩
  · exact absurd hg (Nat.lt_irrefl 0)

end Cert.KernelIdeal.Swap
-- ==== Proof.KernelIdeal.Body.lean ====
/-
# The kernel on one device

The printed program has one branch for each second coordinate. The two differ only in which halves
they name, so this module reads them as one program `swapHalf`, at the device's own side, and proves
that one correct: it sends the column half of its input that is not its own to the partner, copies
the one that is into its output, and waits until its transfer has been read and the partner's has
been written. Then both halves of its output buffer hold its output block, and its three semaphores
are back at zero.
-/
module

public import proofs.«01_k».proof.Proof.KernelIdeal.Protocol

@[expose] public section

noncomputable section

namespace Cert.KernelIdeal.Swap

open Cert.KernelIdeal.Gen Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

/-! ## The program -/

/-- What a device does after the barrier, on side `y` and with partner `n`. -/
def swapHalf (y : Bool) (n : Dev nD) : Prog (TpuEff nD τ sig (Elt F) Λ₀ .tc) PUnit := do
  Prog.lift (.enqueueDma (xHalf !y) (.remote (Dev.tc n) (oHalf y) (.dma sendS)) (.dma recvS)
    (View.wordExact_bits rfl) (View.wordExact_bits rfl) ⟨⟨rfl, Or.inl rfl⟩, trivial⟩)
  let v : Vec F S256x256 .f32 ← Prog.lift (.load xM (cols y).toLoadRect (View.loadsAt_vmem h_S256x256))
  let _ : Vec F S256x256 .f32 ← Prog.lift (.load oM (rows y).toLoadRect (View.loadsAt_vmem h_S256x256))
  Prog.lift (.store oM (rows y) v Finset.univ (View.stores_vmem_bits_univ h_S256x256 rfl) (.inl rfl))
  Prog.lift (.waitDma2 sendS (oHalf y) (xHalf !y) (View.wordExact_bits rfl) (View.wordExact_bits rfl))
  Prog.lift (.waitDma2 recvS (xHalf !y) (oHalf y) (View.wordExact_bits rfl) (View.wordExact_bits rfl))
  pure ⟨⟩

/-- The two branches as printed. -/
def branches (c : Dev nD) : Prog (TpuEff nD τ sig (Elt F) Λ₀ .tc) PUnit := do
  if h : k0_cond1 c = 1#1 then swapHalf false ⟨k0_dev2 c, k0_dev2_lt c h⟩ else pure ⟨⟩
  if h : k0_cond2 c = 1#1 then swapHalf true ⟨k0_dev3 c, k0_dev3_lt c h⟩ else pure ⟨⟩
  pure ⟨⟩

/-- The kernel: signal the partner's barrier, wait at one's own, then the branches. -/
theorem body_eq : cc0_body (F := F) xM (Memref.isWhole_whole _) oM (Memref.isWhole_whole _) cc0_scratch0 cc0_scratch1 = (do
    let c : Dev nD ← Prog.lift .deviceId
    semSignalWord (⟨k0_dev1 c, k0_dev1_lt c⟩ : Dev nD) barS 1#32
    semWaitWord barS 1#32
    branches c) := by
  rw [cc0_body_eq_skeleton]
  unfold cc0_body_skel branches swapHalf
  simp only [Prog.lift, Prog.bind_op, Prog.bind_ret, Prog.pure_eq_ret, k0_pay1, k0_pay2, shapeCast_self]
  rfl

/-- Only the branch of the device's own side does anything. -/
theorem branches_eq (c : Dev nD) : branches (F := F) c = swapHalf (side c) (partner c) := by
  have hp (y : Bool) (n : Dev nD) : (swapHalf (F := F) y n >>= fun _ => pure ⟨⟩) = swapHalf y n := Prog.bind_pure _
  unfold branches
  cases hs : side c
  · have h2 : ¬ k0_cond2 c = 1#1 := fun h => by rw [cond2_iff, hs] at h; exact Bool.false_ne_true h
    rw [dif_pos ((cond1_iff c).mpr hs), dif_neg h2, dev2_eq c ((cond1_iff c).mpr hs)]
    exact hp _ _
  · have h1 : ¬ k0_cond1 c = 1#1 := fun h => by rw [cond1_iff, hs] at h; exact Bool.false_ne_true h.symm
    rw [dif_neg h1, dif_pos ((cond2_iff c).mpr hs), dev3_eq c ((cond2_iff c).mpr hs)]
    exact hp _ _

/-! ## What a device starts from and ends with -/

variable (m : (ℓ : Loc nD τ sig) → Buf (Elt F) ℓ)

/-- The body has no loop that needs a variant. -/
abbrev 𝒱₀ : Variants := Variants.none

/-- Whose semaphore `k` device `c` credits: the partner's barrier, its own send, the partner's receive semaphore. -/
def payee (c : Dev nD) : Fin 3 → Dev nD := fun | 0 => partner c | 1 => c | 2 => partner c

/-- What all devices know: every semaphore of the exchange follows the plan, under the names `K`, and is at its round. -/
def book (K : Dev nD × Fin 3 → ℕ) : sProp 𝕄 :=
  bigSep Finset.univ fun p : Dev nD × Fin 3 => iprop(cellInv ESwap (plan m) (K p) (cell p.1 p.2) ∗ reached ESwap (cell p.1 p.2) 0)

/-- The book may be used any number of times. -/
instance book_persistent (K : Dev nD × Fin 3 → ℕ) : BI.Persistent (book m K) := by unfold book; infer_instance

omit [FloatOps F] in
/-- The entry of the book for one semaphore. -/
theorem book_at (K : Dev nD × Fin 3 → ℕ) (c : Dev nD) (k : Fin 3) :
    book m K ⊢ iprop(cellInv ESwap (plan m) (K (c, k)) (cell c k) ∗ reached ESwap (cell c k) 0) :=
  bigSep_elim (Finset.mem_univ (c, k))

/-- Device `c`'s positions at its own three semaphores, and its permissions to credit the three that it pays. -/
def papers (c : Dev nD) : sProp 𝕄 :=
  iprop((bigSep Finset.univ fun k : Fin 3 => atPos ESwap (cell c k) 0 ∅ 0)
    ∗ bigSep Finset.univ fun k : Fin 3 => dutyTok ESwap (cell (payee c k) k) 0 ())

/-- What device `c` starts from: the book, its papers, its credit at its barrier and its receive semaphore, the ranks. -/
def start (c : Dev nD) : sProp 𝕄 :=
  iprop((∃ K, book m K ∗ papers c) ∗ cred (tallyAt (cell c 0) () 1) ∗ cred (tallyAt (cell c 2) () N) ∗ levAts ranked rank)

/-- What it ends with: its three semaphores at zero. -/
def done (c : Dev nD) : sProp 𝕄 := bigSep Finset.univ fun k : Fin 3 => semVal (cell c k) 0

omit [FloatOps F] in
/-- What holds for each of the three semaphores, written out. -/
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A semaphore whose round is over is given up at zero. -/
theorem give_up (K : Dev nD × Fin 3 → ℕ) (c : Dev nD) (k : Fin 3) :
    iprop(cellInv ESwap (plan m) (K (c, k)) (cell c k) ∗ atPos ESwap (cell c k) 1 ∅ 0) ⊢ (|={Set.univ}=> semVal (cell c k) 0 : sProp 𝕄) :=
  Rounds.cell_close ESwap (plan m) (Set.mem_univ (K (c, k))) (fun h => h) (R := 0 + 1) (no_later m (cell c k))

/-! ## The transfer -/

omit [FloatOps F] in
/-- What a transfer into device `c`'s other half leaves there is what the receive semaphore hands over. -/
theorem landed_hand (c : Dev nD) (g : (cc0_stg1_0 : Ref sig .tc).ty.Contents (Elt F)) :
    oHas c (!side c) ((oHalf !side c).view.write (Elt F) g ((xHalf (side c)).view.read (Elt F) (xIn m (partner c))) Finset.univ)
      = oHas c (!side c) (xOut m c) :=
  pointsTo_congr (landed_eq m c g)

/-- The transfer to the partner, from the start of the round: it consumes the half of the input that is sent and the
    partner's half of output, and what is owed to the partner. -/
theorem wp_transfer (K : Dev nD × Fin 3 → ℕ) (c n : Dev nD) (hn : n = partner c)
    {hsc : (oHalf (side c) : Memref sig (Dev.tc n : Thread nD τ).2.kind .vmem S256x256 .f32).view.ref.isScScratch = false}
    {hsrc : (xHalf !side c).view.WordExact} {hdst : (oHalf (side c)).view.WordExact}
    {hsem : DmaTarget.Typed .vmem (.dma recvS) (.remote (Dev.tc n : Thread nD τ) (oHalf (side c)) (.dma sendS) hsc)}
    {α : Type} {Q : α → sProp 𝕄} {k : PUnit → Prog (TpuEff nD τ sig (Elt F) Λ₀ .tc) α}
    (g : (cc0_stg1_0 : Ref sig .tc).ty.Contents (Elt F)) (W : Waits sig Unit) :
    iprop(book m K ∗ xHas m c (!side c) ∗ oHas (partner c) (side c) g ∗ owes (c : Thread nD τ) (owedSend c) W
        ∗ dutyTok ESwap (cell c 1) 0 () ∗ dutyTok ESwap (cell (partner c) 2) 0 ())
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xHalf !side c) (.remote (Dev.tc n : Thread nD τ) (oHalf (side c)) (.dma sendS) hsc) (.dma recvS) hsrc hdst hsem) k) Q) := by
  subst hn
  have hland := landed_hand m (partner c) g
  rw [side_partner, Bool.not_not, partner_partner] at hland
  have hhand : oHas (partner c) (side c) (xOut m (partner c)) = (plan m).payload (cell (partner c) 2) 0 () := by
    rw [payload_cell, hand_recv, side_partner, Bool.not_not]
  unfold xHas owedSend
  unfold oHas at hland hhand ⊢
  refine BIBase.Entails.trans ?_ (Rounds.wp_send_pointsTo 𝒱₀ ESwap (plan m) (c : Thread nD τ) none (κ₁ := K (c, 1)) (κ₂ := K (partner c, 2))
    (r₁ := 0) (r₂ := 0) (d₁ := ()) (d₂ := ()) (fs := xIn m c) (fd := g) (q := fullShare) (mem_duties m c 1) (mem_duties m (partner c) 2)
    () () N (by exact credit_oHalf (side c)) (amount_cell m c 1) (amount_cell m (partner c) 2) 0 (by rw [zero_add]) (W := W)
    (by rw [payload_cell]; exact BI.Entails.refl _) (by exact Entails.of_eq (hland.trans hhand)))
  iintro ⟨#HB, Hx, Ho, HO, Ht1, Ht2⟩
  ihave #H1 := (book_at m K c 1) $$ HB
  ihave #H2 := (book_at m K (partner c) 2) $$ HB
  icases H1 with ⟨#HI1, #HR1⟩
  icases H2 with ⟨#HI2, #HR2⟩
  isplitr; · iexact HI1
  isplitr; · iexact HI2
  isplitl [Hx]; · iexact Hx
  isplitl [Ho]; · iexact Ho
  isplitl [HO]; · iexact HO
  isplitl [Ht1]; · iexact Ht1
  isplitr; · iexact HR1
  isplitl [Ht2]; · iexact Ht2
  iexact HR2

/-! ## The body -/

/-- The body, executed effect by effect: from the input buffer holding the input block and the output buffer anything, to
    the input buffer unchanged, the output buffer holding the output block, nothing owed, and all three semaphores at zero. -/
theorem wp_body (c : Dev nD) (W : Waits sig Unit) (g : (cc0_stg1_0 : Ref sig .tc).ty.Contents (Elt F)) (Q : PUnit → sProp 𝕄) :
    iprop((start m c ∗ owes (c : Thread nD τ) (owed₀ c) W
          ∗ (((c : Thread nD τ).loc cc0_stg0_0) ↦{fullShare} xIn m c) ∗ (((c : Thread nD τ).loc cc0_stg1_0) ↦{fullShare} g))
        ∗ ((done c ∗ (∃ W', owes (c : Thread nD τ) 0 W')
          ∗ (((c : Thread nD τ).loc cc0_stg0_0) ↦{fullShare} xIn m c) ∗ (((c : Thread nD τ).loc cc0_stg1_0) ↦{fullShare} xOut m c)) -∗ Q ⟨⟩))
      ⊢ wp frame (wpE (defs₀ (F := F)) 𝒱₀ c none) Set.univ
          (cc0_body xM (Memref.isWhole_whole _) oM (Memref.isWhole_whole _) cc0_scratch0 cc0_scratch1) Q := by
  rw [body_eq]
  simp only [semSignalWord, semWaitWord, Prog.lift, Prog.bind_op, Prog.bind_ret, Prog.pure_eq_ret, wp_deviceId, branches_eq, dev1_eq]
  unfold swapHalf
  simp only [Prog.lift, Prog.bind_op, Prog.bind_ret, Prog.pure_eq_ret]
  rw [x_split m c (side c), o_split c (side c) g, o_split c (side c) (xOut m c)]
  unfold start papers
  rw [three, three]
  iintro ⟨⟨⟨⟨%K, #HB, ⟨Ha0, Ha1, Ha2⟩, Ht0, Ht1, Ht2⟩, Hc0, Hc2, #Hlev⟩, HO, ⟨Hx, Hx'⟩, Ho, Ho'⟩, HQ⟩
  ihave #H0 := (book_at m K c 0) $$ HB
  ihave #H1 := (book_at m K c 1) $$ HB
  ihave #H2 := (book_at m K c 2) $$ HB
  ihave #HP := (book_at m K (partner c) 0) $$ HB
  icases H0 with ⟨#HI0, -⟩
  icases H1 with ⟨#HI1, -⟩
  icases H2 with ⟨#HI2, -⟩
  icases HP with ⟨#HIP, #HRP⟩
  -- the signal hands the partner the half of the output it will write
  iapply (Rounds.wp_signal 𝒱₀ ESwap (plan m) (c : Thread nD τ) none (dst := (partner c : Thread nD τ)) (κ := K (partner c, 0))
      (d := ()) (mem_duties m (partner c) 0) ((amount_cell m (partner c) 0).trans (by decide)) () (owedSend c) rfl) $$ [HO Ht0 Ho']
  · isplitr; · iexact HIP
    isplitl [HO]; · iexact HO
    isplitl [Ht0]; · iexact Ht0
    isplitl [Ho']
    · iapply (Entails.of_eq (payload_cell m (partner c) 0).symm)
      rw [hand_bar, partner_partner, side_partner]
      iexists g; iexact Ho'
    iexact HRP
  iintro HO
  -- the wait at the barrier takes the partner's half
  iapply (Rounds.wp_wait_rest_token 𝒱₀ ESwap (plan m) (c : Thread nD τ) none (κ := K (c, 0))
      (wpE_semWait_eq 𝒱₀ (c : Thread nD τ) none Set.univ) (Set.mem_univ _) () (O := owedSend c) (W := W) (R := 0) (m := 0) (T := ∅)
      ((Nat.zero_add _).trans (by rw [expect_cell m c 0]; decide))) $$ [Hc0 HO Ha0]
  · isplitr; · iexact HI0
    isplitl [Hc0]; · iexact Hc0
    isplitl [HO]; · iexact HO
    isplitr; · iapply (mayWait_barrier c); iexact Hlev
    iexact Ha0
  iintro ⟨HO, Ha0, -, Hpay⟩
  ihave Hp := (Entails.of_eq ((rest_cell m c 0).trans (hand_bar m c))) $$ Hpay
  icases Hp with ⟨%gp, Hop⟩
  -- the transfer
  iapply (wp_transfer m K c _ rfl gp _) $$ [Hx' Hop HO Ht1 Ht2]
  · isplitr; · iexact HB
    isplitl [Hx']; · iexact Hx'
    isplitl [Hop]; · iexact Hop
    isplitl [HO]; · iexact HO
    isplitl [Ht1]; · iexact Ht1
    iexact Ht2
  iintro ⟨Hc1, HO⟩
  -- the half that stays is copied
  unfold xHas oHas
  iapply (wp_load 𝒱₀ (c : Thread nD τ) none Set.univ (m := xM) (View.set_slice xM.view (cols (side c))).ge) $$ Hx; iintro Hx
  iapply (wp_load 𝒱₀ (c : Thread nD τ) none Set.univ (m := oM) (View.set_slice oM.view (rows (side c))).ge) $$ Ho; iintro Ho
  iapply (wp_store 𝒱₀ (c : Thread nD τ) none Set.univ (m := oM) (r := rows (side c)) (Mk := Finset.univ) (S := (oHalf (side c)).view.set) (Finset.Subset.refl _)) $$ Ho; iintro Ho
  ihave Ho := (Entails.of_eq (pointsTo_congr (stored_eq m c g))) $$ Ho
  -- the two waits
  iapply (Rounds.wp_wait_rest_token 𝒱₀ ESwap (plan m) (c : Thread nD τ) none (κ := K (c, 1))
      (wpE_waitDma2_eq 𝒱₀ (c : Thread nD τ) none Set.univ) (Set.mem_univ _) () (O := 0) (R := 0) (m := 0) (T := ∅)
      ((Nat.zero_add _).trans ((expect_cell m c 1).trans (credit_xHalf !side c).symm).symm)) $$ [Hc1 HO Ha1]
  · isplitr; · iexact HI1
    isplitl [Hc1]; · rw [credit_xHalf]; iexact Hc1
    isplitl [HO]; · iexact HO
    isplitr; · rw [MayWait_zero]; iempintro
    iexact Ha1
  iintro ⟨HO, Ha1, -, Hpay⟩
  ihave Hx' := (Entails.of_eq ((rest_cell m c 1).trans (hand_send m c))) $$ Hpay
  iapply (Rounds.wp_wait_rest_token 𝒱₀ ESwap (plan m) (c : Thread nD τ) none (κ := K (c, 2))
      (wpE_waitDma2_eq 𝒱₀ (c : Thread nD τ) none Set.univ) (Set.mem_univ _) () (O := 0) (R := 0) (m := 0) (T := ∅)
      ((Nat.zero_add _).trans ((expect_cell m c 2).trans (credit_oHalf (side c)).symm).symm)) $$ [Hc2 HO Ha2]
  · isplitr; · iexact HI2
    isplitl [Hc2]; · rw [credit_oHalf]; iexact Hc2
    isplitl [HO]; · iexact HO
    isplitr; · rw [MayWait_zero]; iempintro
    iexact Ha2
  iintro ⟨HO, Ha2, -, Hpay⟩
  ihave Ho' := (Entails.of_eq ((rest_cell m c 2).trans (hand_recv m c))) $$ Hpay
  unfold xHas oHas
  -- the semaphores are given up
  imod (give_up m K c 0) $$ [Ha0] with Hz0
  · isplitr; · iexact HI0
    iexact Ha0
  imod (give_up m K c 1) $$ [Ha1] with Hz1
  · isplitr; · iexact HI1
    iexact Ha1
  imod (give_up m K c 2) $$ [Ha2] with Hz2
  · isplitr; · iexact HI2
    iexact Ha2
  rw [wp_ret]; imodintro
  iapply HQ
  unfold done
  rw [three]
  isplitl [Hz0 Hz1 Hz2]
  · isplitl [Hz0]; · iexact Hz0
    isplitl [Hz1] <;> iassumption
  isplitl [HO]; · iexists _; iexact HO
  isplitl [Hx Hx']
  · isplitl [Hx]; · iexact Hx
    iexact Hx'
  isplitl [Ho]; · iexact Ho
  iexact Ho'

end Cert.KernelIdeal.Swap
-- ==== Proof.KernelIdeal.Launch.lean ====
/-
# The exchange's semaphores at launch

The semaphores of the exchange are set up for all devices at once: every device learns the whole
book, keeps its own positions, and gets the permissions to credit its partner's barrier and receive
semaphore and its own send semaphore. Each also gets the credit its partner owes it.
-/
module

public import proofs.«01_k».proof.Proof.KernelIdeal.Body

@[expose] public section

noncomputable section

namespace Cert.KernelIdeal.Swap

open Cert.KernelIdeal.Gen Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## The deal -/

/-- The kernel's own two semaphores. -/
abbrev osem : Fin 2 → SemLoc sig := fun | 0 => port 1 | 1 => port 2

/-- They are two different scoped semaphores that no staging transfer uses. -/
theorem ownSemFacts : Pipeline.OwnSemFacts cfg0.spec osem := by decide

/-- All semaphores of the exchange, and one permission for each. -/
def allCells : Finset (GSem nD τ sig) := Finset.univ.map ⟨fun p : Dev nD × Fin 3 => cell p.1 p.2, cell_injective⟩
/-- The permissions: for each semaphore, the one duty of its one round. -/
def allDuties : Finset (GSem nD τ sig × ℕ × Unit) :=
  Finset.univ.map ⟨fun p : Dev nD × Fin 3 => (cell p.1 p.2, 0, ()), fun _ _ h => cell_injective (congrArg Prod.fst h)⟩

/-- The ghost state at launch. -/
def ghost₀ : Ghost :=
  (initOf (Pipeline.cells cfgs cellOf_inj) (Pipeline.launchToks cfgs cellOf_inj), initOf allCells allDuties)

/-- What device `c` is dealt of it: for each of its semaphores the state, the mark, the position and the permission. -/
def dealt (c : Dev nD) : sProp 𝕄 :=
  iprop((bigSep Finset.univ fun k : Fin 3 => roundState ESwap (plan m) (cell c k) 0)
    ∗ (bigSep Finset.univ fun k : Fin 3 => reached ESwap (cell c k) 0)
    ∗ (bigSep Finset.univ fun k : Fin 3 => atPos ESwap (cell c k) 0 ∅ 0)
    ∗ bigSep Finset.univ fun k : Fin 3 => dutyTok ESwap (cell c k) 0 ())

omit [FloatOps F] in
/-- The ghost state of the exchange is dealt out to the devices. -/
theorem deal : BI.own (ESwap (initOf allCells allDuties)) ⊢ (|==> bigSep Finset.univ (dealt m) : sProp 𝕄) := by
  have hc (Φ : GSem nD τ sig → sProp 𝕄) :
      bigSep allCells Φ = bigSep Finset.univ fun c : Dev nD => bigSep Finset.univ fun k : Fin 3 => Φ (cell c k) := by
    unfold allCells; rw [bigSep_map, bigSep_univ_prod]; rfl
  have hd (Φ : GSem nD τ sig × ℕ × Unit → sProp 𝕄) :
      bigSep allDuties Φ = bigSep Finset.univ fun c : Dev nD => bigSep Finset.univ fun k : Fin 3 => Φ (cell c k, 0, ()) := by
    unfold allDuties; rw [bigSep_map, bigSep_univ_prod]; rfl
  iintro H
  imod (Rounds.fund ESwap (plan m) allCells allDuties) $$ H with ⟨Hs, Hr, Ha, Ht⟩
  ihave Hs := (Entails.of_eq (hc _)) $$ Hs
  ihave Hr := (Entails.of_eq (hc _)) $$ Hr
  ihave Ha := (Entails.of_eq (hc _)) $$ Ha
  ihave Ht := (Entails.of_eq (hd _)) $$ Ht
  imodintro
  unfold dealt
  simp only [bigSep_sep']
  isplitl [Hs]; · iexact Hs
  isplitl [Hr]; · iexact Hr
  isplitl [Ha]; · iexact Ha
  iexact Ht

omit [FloatOps F] in
/-- A device's own two semaphores and its barrier, at zero, are its three of the exchange. -/
theorem sems_eq (c : Dev nD) :
    iprop(Pipeline.ownSems0 (Ix := Unit) (Name := ℕ) (U := Ghost) (Lvl := ℕ) (Val := Elt F) (τ := τ) osem c ∗ unscopedSems0 c)
      ⊣⊢ (done c : sProp 𝕄) := by
  have hu : (unscopedSems0 c : sProp 𝕄) = semVal (cell c 0) 0 := by
    unfold unscopedSems0; rw [bigSep_eq_bigSepL_of_eq [port 0] (by decide) (by decide)]; rfl
  have ho : (Pipeline.ownSems0 (Ix := Unit) (Name := ℕ) (U := Ghost) (Lvl := ℕ) (Val := Elt F) (τ := τ) osem c : sProp 𝕄)
      = iprop(semVal (cell c 1) 0 ∗ semVal (cell c 2) 0) := by
    rw [Pipeline.ownSems0_eq_of_list c osem [0, 1] (by decide) (by decide)]; rfl
  unfold done
  rw [hu, ho, three]
  exact ⟨sep_comm.1, sep_comm.2⟩

omit [FloatOps F] in
/-- A semaphore at zero, with its state and mark, is put under the plan. -/
theorem put_up (c : Dev nD) (k : Fin 3) :
    iprop(semVal (cell c k) 0 ∗ roundState ESwap (plan m) (cell c k) 0 ∗ reached ESwap (cell c k) 0)
      ⊢ (|={Set.univ}=> ∃ κ : ℕ, cellInv ESwap (plan m) κ (cell c k) ∗ reached ESwap (cell c k) 0 : sProp 𝕄) := by
  iintro ⟨Hv, Hs, Hr⟩
  imod ((Rounds.body_intro ESwap (plan m) (cell c k)).trans inv_alloc) $$ [Hv Hs] with ⟨%κ, HI⟩
  · isplitl [Hv] <;> iassumption
  imodintro
  iexists κ
  isplitl [HI] <;> iassumption

/-- Device `c` with its semaphores under the plan. -/
def ready (c : Dev nD) : sProp 𝕄 :=
  iprop((bigSep Finset.univ fun k : Fin 3 => iprop(∃ κ : ℕ, cellInv ESwap (plan m) κ (cell c k) ∗ reached ESwap (cell c k) 0))
    ∗ (bigSep Finset.univ fun k : Fin 3 => atPos ESwap (cell c k) 0 ∅ 0)
    ∗ bigSep Finset.univ fun k : Fin 3 => dutyTok ESwap (cell c k) 0 ())

omit [FloatOps F] in
/-- A device's counters at zero and what it is dealt put its semaphores under the plan. -/
theorem ready_intro (c : Dev nD) :
    iprop(Pipeline.ownSems0 (Ix := Unit) (Name := ℕ) (U := Ghost) (Lvl := ℕ) (Val := Elt F) (τ := τ) osem c ∗ unscopedSems0 c ∗ dealt m c)
      ⊢ |={Set.univ}=> ready m c := by
  unfold dealt
  iintro ⟨Hos, Hus, Hst, Hr, Hat, Htok⟩
  ihave Hv := (sems_eq (F := F) c).1 $$ [Hos Hus]
  · isplitl [Hos] <;> iassumption
  imod (show iprop(done c ∗ (bigSep Finset.univ fun k : Fin 3 => roundState ESwap (plan m) (cell c k) 0)
        ∗ bigSep Finset.univ fun k : Fin 3 => reached ESwap (cell c k) 0)
      ⊢ (|={Set.univ}=> bigSep Finset.univ fun k : Fin 3 => iprop(∃ κ : ℕ, cellInv ESwap (plan m) κ (cell c k) ∗ reached ESwap (cell c k) 0) : sProp 𝕄) from by
        unfold done
        rw [← bigSep_sep', ← bigSep_sep']
        exact (bigSep_mono fun k _ => put_up m c k).trans (bigSep_fupd _ _)) $$ [Hv Hst Hr] with HI
  · isplitl [Hv]; · iexact Hv
    isplitl [Hst] <;> iassumption
  imodintro
  unfold ready
  isplitl [HI]; · iexact HI
  isplitl [Hat] <;> iassumption

/-- Whose permission goes to whom, as a permutation of the semaphores: each is dealt to the device that pays it. -/
def paying : Dev nD × Fin 3 ≃ Dev nD × Fin 3 where
  toFun p := (payee p.1 p.2, p.2)
  invFun p := (payee p.1 p.2, p.2)
  left_inv := by decide
  right_inv := by decide

omit [FloatOps F] in
/-- All permissions, by the semaphore they are for, are all permissions by the device that pays. -/
theorem pass_on : (bigSep Finset.univ fun c : Dev nD => bigSep Finset.univ fun k : Fin 3 => (dutyTok ESwap (cell c k) 0 () : sProp 𝕄))
    = bigSep Finset.univ fun c : Dev nD => bigSep Finset.univ fun k : Fin 3 => dutyTok ESwap (cell (payee c k) k) 0 () := by
  rw [← bigSep_univ_prod (fun p : Dev nD × Fin 3 => (dutyTok ESwap (cell p.1 p.2) 0 () : sProp 𝕄)),
    ← bigSep_univ_prod (fun p : Dev nD × Fin 3 => (dutyTok ESwap (cell (payee p.1 p.2) p.2) 0 () : sProp 𝕄))]
  exact bigSep_univ_equiv paying (fun p : Dev nD × Fin 3 => (dutyTok ESwap (cell p.1 p.2) 0 () : sProp 𝕄))

omit [FloatOps F] in
/-- What all devices know together, each of them knows. -/
theorem share {R : sProp 𝕄} [BI.Persistent R] {Φ : Dev nD → sProp 𝕄} :
    iprop(R ∗ bigSep Finset.univ Φ) ⊢ bigSep Finset.univ fun c => iprop(R ∗ Φ c) :=
  (sep_mono_left (BI.bigSep_of_persistent Finset.univ R)).trans (by rw [← bigSep_sep'])

omit [FloatOps F] in
/-- All devices' semaphores under the plan: one book for all, and the papers. -/
theorem publish : bigSep Finset.univ (ready m) ⊢ (bigSep Finset.univ fun c : Dev nD => iprop(∃ K, book m K ∗ papers c) : sProp 𝕄) := by
  unfold ready
  rw [bigSep_sep', bigSep_sep', pass_on,
    ← bigSep_univ_prod (fun p : Dev nD × Fin 3 => iprop(∃ κ : ℕ, cellInv ESwap (plan m) κ (cell p.1 p.2) ∗ reached ESwap (cell p.1 p.2) 0))]
  iintro ⟨HI, Hat, Htok⟩
  ihave HK := (BI.bigSep_exists_pi Finset.univ
    (fun (p : Dev nD × Fin 3) (κ : ℕ) => (iprop(cellInv ESwap (plan m) κ (cell p.1 p.2) ∗ reached ESwap (cell p.1 p.2) 0) : sProp 𝕄))) $$ HI
  icases HK with ⟨%K, HB⟩
  iapply ((share (R := book m K) (Φ := papers)).trans (bigSep_mono fun c _ =>
    (by iintro H; iexists K; iexact H : iprop(book m K ∗ papers c) ⊢ iprop(∃ K, book m K ∗ papers c))))
  isplitl [HB]; · unfold book; iexact HB
  unfold papers
  rw [bigSep_sep']
  isplitl [Hat] <;> iassumption

omit [FloatOps F] in
/-- From all devices' counters at zero and what they are dealt: one book, and each device's papers. -/
theorem set_up : (bigSep Finset.univ fun c => iprop(Pipeline.ownSems0 (Ix := Unit) (Name := ℕ) (U := Ghost) (Lvl := ℕ) (Val := Elt F) (τ := τ) osem c
        ∗ unscopedSems0 c ∗ dealt m c) : sProp 𝕄)
    ⊢ |={Set.univ}=> bigSep Finset.univ fun c : Dev nD => iprop(∃ K, book m K ∗ papers c) :=
  ((bigSep_mono fun c _ => ready_intro m c).trans (bigSep_fupd _ _)).trans (BI.fupd_mono (publish m))

/-! ## The credit at launch -/

/-- What each device's three semaphores are owed at launch, all by the partner. -/
def due : Fin 3 → ℕ := fun | 0 => 1 | 1 => 0 | 2 => N

omit [FloatOps F] in
/-- At launch a semaphore is owed its due by the partner of its device and nothing by others. -/
theorem owed_at (d c : Dev nD) (k : Fin 3) : owed₀ d (cell c k) () = if d = partner c then due k else 0 := by
  have key (l : Fin 3) : (cell c k = cell (partner d) l ∧ () = ()) ↔ (d = partner c ∧ k = l) := by
    constructor
    · rintro ⟨h, -⟩
      have h' := cell_injective (a₁ := (c, k)) (a₂ := (partner d, l)) h
      exact ⟨(partner_partner d).symm.trans (congrArg partner (congrArg Prod.fst h').symm), congrArg Prod.snd h'⟩
    · rintro ⟨rfl, rfl⟩; rw [partner_partner]; exact ⟨rfl, rfl⟩
  unfold owed₀ owedSend
  rw [Pi.add_apply, Finsupp.add_apply, tallyAt_apply, tallyAt_apply, if_congr (key 2) rfl rfl, if_congr (key 0) rfl rfl]
  by_cases h : d = partner c
  · rw [if_pos h]
    match k with
    | 0 => rw [if_neg (fun h' => absurd h'.2 (by decide)), if_pos ⟨h, rfl⟩]; rfl
    | 1 => rw [if_neg (fun h' => absurd h'.2 (by decide)), if_neg (fun h' => absurd h'.2 (by decide))]; rfl
    | 2 => rw [if_pos ⟨h, rfl⟩, if_neg (fun h' => absurd h'.2 (by decide))]; rfl
  · rw [if_neg h, if_neg (fun h' => h h'.1), if_neg (fun h' => h h'.1)]

omit [FloatOps F] in
/-- So the credit a device gets at launch for a semaphore is its due. -/
theorem credit_at (c : Dev nD) (k : Fin 3) :
    tallyOn (cell c k) (launchCredit (Pipeline.owing owed₀) 0 (cell c k)) = (tallyAt (cell c k) () (due k) : CellTallies nD τ sig Unit) := by
  unfold tallyAt; refine congrArg _ (Finsupp.ext fun u => ?_); cases u
  rw [Pipeline.launchCredit_owing, Finsupp.single_eq_same, Finset.sum_congr rfl fun d _ => owed_at d c k,
    Finset.sum_ite_eq' Finset.univ (partner c) fun _ => due k, if_pos (Finset.mem_univ _)]

omit [FloatOps F] in
/-- Of the credit at launch a device keeps that for its barrier and that for its receive semaphore. -/
theorem credits (c : Dev nD) :
    (Pipeline.launchCred owed₀ c : sProp 𝕄) ⊢ iprop(cred (tallyAt (cell c 0) () 1) ∗ cred (tallyAt (cell c 2) () N)) := by
  unfold Pipeline.launchCred
  rw [bigSep_univ_at _ (port 0)]
  refine BI.sep_mono (Entails.of_eq (congrArg cred (credit_at c 0))) ?_
  exact (bigSep_elim (Finset.mem_erase.mpr ⟨by decide, Finset.mem_univ (port 2)⟩)).trans (Entails.of_eq (congrArg cred (credit_at c 2)))

end Cert.KernelIdeal.Swap
-- ==== Proof.KernelIdeal.Staging.lean ====
/-
# The body in the pipeline

The pipeline stages the one block of each array, runs the body, and writes the output back. This
module says in the pipeline's terms what each device's body starts from and ends with, and that the
body does so.
-/
module

public import proofs.«01_k».proof.Proof.KernelIdeal.Body

@[expose] public section

noncomputable section

namespace Cert.KernelIdeal.Swap

open Cert.KernelIdeal.Gen Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## The body as the pipeline sees it -/

/-- The pipeline's data on device `c`: the arrays as launched, the blocks the body leaves, and what the device owns and
    owes before and after the one grid point. -/
def dats (_ : Fin 1) (c : Dev nD) : Dat τ (Elt F) Unit ℕ Ghost ℕ cfg0 c where
  A w := m ((cfg0.win w).arr.view.loc (c : Thread nD τ))
  after w _ := match w with
    | ⟨0, _⟩ => xIn m c
    | ⟨1, _⟩ => xOut m c
  Φ t := match t with
    | ⟨0, _⟩ => start m c
    | ⟨_ + 1, _⟩ => done c
  q _ := fullShare
  owed t := match t with
    | ⟨0, _⟩ => owed₀ c
    | ⟨_ + 1, _⟩ => 0

omit [FloatOps F] in
/-- The block of the argument is the argument. -/
theorem block_whole (t : Fin cfg0.N) (X : (cc0_stg0_0 : Ref sig .tc).ty.Contents (Elt F)) :
    (win0_0.blk t).view.read (Elt F) X = X := by
  funext i
  refine congrArg X (funext fun a => Fin.ext ?_)
  exact win0_0.rect_emb_val_of_index_zero t a rfl i

omit [FloatOps F] in
/-- To own a whole buffer with contents `X` is to hold it with contents equal to `X`. -/
theorem owns_buffer (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Buffer `b` of device `c` holds `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is given: its start, what it owes, and both staged buffers. -/
def bodyPre (c : Dev nD) : sProp 𝕄 :=
  iprop(start m c ∗ (dats m 0 c).owesAt () t0_0.castSucc
    ∗ (∃ d, holds c cc0_stg0_0 ((dats m 0 c).before (0 : Fin 2) t0_0 d))
    ∗ (∃ d, holds c cc0_stg1_0 ((dats m 0 c).before (1 : Fin 2) t0_0 d)))

/-- What it must return: its semaphores at zero, nothing owed, the input block and the output block. -/
def bodyPost (c : Dev nD) : sProp 𝕄 :=
  iprop(done c ∗ (dats m 0 c).owesAt () t0_0.succ ∗ holds c cc0_stg0_0 (xIn m c) ∗ holds c cc0_stg1_0 (xOut m c))

/-- The body meets the pipeline's obligation. -/
theorem body_obligation (c : Dev nD) : BodyObligation (dats (F := F) m 0 c) (defs₀ (F := F)) 𝒱₀ () Set.univ := fun t => by
  rw [fin_N0 t, bigSep_W0, bigSep_W0]
  simp only [owns_buffer]
  show bodyPre m c ⊢ wp frame (wpE (defs₀ (F := F)) 𝒱₀ c none) Set.univ
    (cc0_body xM (Memref.isWhole_whole _) oM (Memref.isWhole_whole _) cc0_scratch0 cc0_scratch1) (fun _ => bodyPost m c)
  unfold bodyPre
  iintro ⟨Hs, Ho, ⟨%d0, %g0, %hg0, Hx⟩, ⟨%d1, %g1, %hg1, Hout⟩⟩
  have hx : g0 = xIn m c := by
    rw [hg0]; unfold Dat.before
    rw [if_pos (show (cfg0.win (0 : Fin 2)).fetch t0_0 = true from rfl)]
    exact block_whole t0_0 (xIn m c)
  subst hx
  unfold Dat.owesAt Pipeline.owesWithin
  icases Ho with ⟨%W, %hW, HO⟩
  rw [show (dats m 0 c).owed t0_0.castSucc = owed₀ c from rfl]
  iapply (wp_body m c W g1 fun _ => bodyPost m c)
  isplitr []
  · isplitl [Hs]; · iexact Hs
    isplitl [HO]; · iexact HO
    isplitl [Hx]; · iexact Hx
    iexact Hout
  · unfold bodyPost Dat.owesAt Pipeline.owesWithin
    rw [show (dats m 0 c).owed t0_0.succ = 0 from rfl]
    iintro ⟨Hd, ⟨%W', HO⟩, Hx, Hout⟩
    isplitl [Hd]; · iexact Hd
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

end Cert.KernelIdeal.Swap
-- ==== Proof.KernelIdeal.Run.lean ====
/-
# A run of the program

From any memory with all counters at zero, a run of the whole program ends; then each device's
result array holds its output block, its argument is unchanged, and every semaphore counter is zero.
-/
module

public import proofs.«01_k».proof.Proof.KernelIdeal.Launch
public import proofs.«01_k».proof.Proof.KernelIdeal.Staging
public import Idealize.ShloMosaic.Lib.Pipeline.CollectiveSegs

@[expose] public section

noncomputable section

namespace Cert.KernelIdeal.Swap

open Cert.KernelIdeal.Gen Cert.Halves

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-- Every array is held in full. -/
theorem share_eq (c : Dev nD) (w : Fin cfg0.W) : (dats m 0 c).share w = fullShare := by unfold Dat.share; split <;> rfl

/-- What a device has at launch is what its body starts from. -/
theorem start_intro (c : Dev nD) :
    iprop(Pipeline.unscopedRestP Pipeline.Prefetch.none cfg0.spec c (fun b => m ((c : Thread nD τ).loc b)) ∗ levAts ranked rank
        ∗ Pipeline.launchCred owed₀ c ∗ prngReg c (ρ c) ∗ (∃ K, book m K ∗ papers c))
      ⊢ (|={Set.univ}=> iprop(start m c ∗ emp) : sProp 𝕄) := by
  iintro ⟨-, Hlev, Hcr, -, HB⟩
  ihave Hc := (credits (F := F) c) $$ Hcr
  icases Hc with ⟨H0, H2⟩
  imodintro
  unfold start
  isplitl
  · isplitl [HB]; · iexact HB
    isplitl [H0]; · iexact H0
    isplitl [H2]; · iexact H2
    iexact Hlev
  · iempintro

/-- The body starts from that alone: the kernel has no prefetched table and no scratch buffer. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩
  iexact Hs

/-- What the body ends with is all its semaphores at zero. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from rfl, scopedRest0_eq]
  iintro H
  ihave H := (sems_eq (F := F) c).2 $$ H
  icases H with ⟨Ho, Hu⟩
  isplitl [Hu]; · iexact Hu
  isplitl [Ho]; · iexact Ho
  iempintro

/-- The pipeline's waits for its staging transfers are in order. -/
theorem waits (c : Dev nD) : (levAts ranked rank : sProp 𝕄) ⊢ Pipeline.cellsWaits cfgs (dats m) () 0 c :=
  Pipeline.cellsWaits_intro cfgs (dats m) () 0 c fun w s t =>
    mayWait_staging c _ (by fin_cases w <;> fin_cases s <;> decide) _ (by
      rcases t with ⟨_ | _, ht⟩
      · exact Or.inl rfl
      · exact Or.inr rfl)

set_option maxRecDepth 8000 in
/-- A run ends with every array at the contents the pipeline computes and every counter at zero. -/
theorem run_arrays : θ_run defs (onTc (τ := τ) (main (F := F))) ⟨m, fun _ => 0, ρ⟩ (fun r =>
    (∀ (c : Dev nD) (w : Fin cfg0.W), r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EStage defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := owed₀) (howed₀ := fun _ => rfl) (howedN := fun _ => rfl)
    (L := ranked) (lv := rank) (hL := ranked_other) (hwaits := waits m)
    (G := dealt m) (G' := fun c => iprop(∃ K, book m K ∗ papers c)) (u₀ := ghost₀)
    (hu₀ := by
      unfold ghost₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it began. -/
theorem arr_arg (c : Dev nD) : (dats m 0 c).arrAt (0 : Fin 2) cfg0.N = m ((c : Thread nD τ).loc main_arg0) :=
  (dats m 0 c).arrAt_in (0 : Fin 2) rfl _

/-- The result array ends as the output block. -/
theorem arr_result (c : Dev nD) : (dats m 0 c).arrAt (1 : Fin 2) cfg0.N = xOut m c :=
  (dats m 0 c).arrAt_eq_of_after_last (1 : Fin 2) t0_0 (by decide +kernel) (xOut m c) fun _ => rfl

/-- From any memory with all counters at zero, a run ends with each device's result at its output block, its argument
    unchanged, and every counter at zero. -/
theorem run : θ_run defs (onTc (τ := τ) (main (F := F))) ⟨m, fun _ => 0, ρ⟩ (fun r =>
    (∀ c : Dev nD, r.2.mem ((c.tc : Thread nD τ).loc main_v1) = xOut m c
      ∧ r.2.mem ((c.tc : Thread nD τ).loc main_arg0) = m ((c.tc : Thread nD τ).loc main_arg0))
      ∧ r.2.sem = fun _ => 0) :=
  (θ_run defs _ _).mono (fun _ h => ⟨fun c => ⟨(h.1 c 1).trans (arr_result m c), (h.1 c 0).trans (arr_arg m c)⟩, h.2⟩) (run_arrays m ρ)

end Cert.KernelIdeal.Swap
-- ==== Proof.KernelIdeal.Whole.lean ====
/-
# The result as a block of the whole array

The devices' input blocks are the upper and the lower half of one 512×512 array, by the second mesh
coordinate. Then each device's output block is the left or the right half of that same array, by
the same coordinate.
-/
module

public import proofs.«01_k».proof.Proof.KernelIdeal.Blocks

@[expose] public section

noncomputable section

namespace Cert.KernelIdeal.Swap

open Cert.KernelIdeal.Gen Cert.Halves

open Idealize.ShloMosaic
open Idealize.ShloMosaic.TcCoe

/-- A 512×512 array: what the devices hold between them. -/
abbrev Big : Shape := ⟨2, ![512, 512]⟩

/-- Where a device's input block is in the whole array, and where its output block is. -/
abbrev rowBlock (c : Dev nD) := Layout.meshBlock [2, 2] ![[1], []] c
abbrev colBlock (c : Dev nD) := Layout.meshBlock [2, 2] ![[], [1]] c

/-- The input block begins at the row its side names, the output block at the column its side names. -/
theorem row_start (c : Dev nD) : (rowBlock c 0).val * 256 = lo (side c) := by revert c; decide
theorem col_start (c : Dev nD) : (colBlock c 1).val * 256 = lo (side c) := by revert c; decide

/-- The devices of a pair are on the side they are named by. -/
theorem side_member (c : Dev nD) (b : Bool) : side (member c b) = b := by revert c b; decide

variable {F : FTy → Type} (m : (ℓ : Loc nD τ sig) → Buf (Elt F) ℓ) (v : Big.Idx → Elt F .f32)

/-- If every input block is its device's row block of the array `v`, every output block is its
    device's column block of `v`. -/
theorem xOut_whole
    (hv : ∀ c : Dev nD, m ((c.tc : Thread nD τ).loc main_arg0) = Layout.blockN Wide Big (rowBlock c) v) (c : Dev nD) :
    xOut m c = Layout.blockN Tall Big (colBlock c) v := by
  funext i
  refine (stitch_whole v _ (side c) (fun b j => ?_) i).trans ?_
  · refine (congrFun (hv (member c b)) j).trans (congrArg v ?_)
    funext a
    refine Fin.ext ?_
    rw [Layout.TilesN.idx_val]
    match a with
    | ⟨0, _⟩ =>
      have h := row_start (member c b)
      rw [side_member] at h
      exact congrArg (· + (j 0).val) h
    | ⟨1, _⟩ => exact Nat.zero_add _
  · refine congrArg v ?_
    funext a
    refine Fin.ext ?_
    rw [Layout.TilesN.idx_val]
    match a with
    | ⟨0, _⟩ => exact (Nat.zero_add _).symm
    | ⟨1, _⟩ => exact congrArg (· + (i 1).val) (col_start c).symm

end Cert.KernelIdeal.Swap
-- ==== Proof.ReferenceIdeal.Run.lean ====
/-
# A run of the reference

The reference returns its argument: it has no operation, so a run changes no buffer. It has no
semaphore either.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Whole

open Idealize.ShloMosaic Idealize.ShloMosaic.TcCoe Idealize.ShloMosaic.StableHlo Idealize.SL.Sem

variable {F : FTy → Type} [FloatOps F]

/-- From any memory with all counters at zero, a run of the reference ends with its argument, which
    is also its result, unchanged and every counter at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.ReferenceIdeal.Whole

end
-- ==== Proof.lean ====
/-
# The exchange of a 512×512 array between a row and a column layout

Four devices, a 2×2 mesh. Each begins with the upper or the lower 256 rows of an array, by its second
mesh coordinate, and ends with the left or the right 256 columns. This module puts the claims
together; the mathematics is in the modules it imports:

* `Shared/Halves` — the halves of the blocks and the block stitched from them;
* `KernelIdeal/Blocks` — the pairs of devices, their buffers, and each device's output block;
* `KernelIdeal/Protocol` — who may credit which semaphore, and what each credit hands over;
* `KernelIdeal/Body` — one device's part, from its permissions to its output block;
* `KernelIdeal/Staging` — the same with the buffers the pipeline stages;
* `KernelIdeal/Launch` — the semaphores set up for all devices;
* `KernelIdeal/Run` — the run of the whole program;
* `KernelIdeal/Whole` — the output blocks as blocks of the whole array;
* `Kernel/…` — the same run for the program as printed;
* `ReferenceIdeal/Run` — the run of the reference.
-/
module

public import proofs.«01_k».proof.Defs
public import proofs.«01_k».proof.Proof.Kernel.Run
public import proofs.«01_k».proof.Proof.KernelIdeal.Run
public import proofs.«01_k».proof.Proof.KernelIdeal.Whole
public import proofs.«01_k».proof.Proof.ReferenceIdeal.Run

@[expose] public section

noncomputable section

namespace Cert.Proof

open Idealize.ShloMosaic Idealize.SL.Sem

/-- The program as printed runs, leaves its argument unchanged and every counter at zero. -/
theorem frame_kernel : Cert.quiescent_Kernel := fun m g _ =>
  (θ_run Cert.Kernel.defs _ _).mono (fun _ h => ⟨fun c => (h.1 c).2, h.2⟩) (Cert.Kernel.Swap.run m g)

/-- So does the program over the extended reals, -/
theorem frame_kernelIdeal : Cert.quiescent_KernelIdeal := fun m g _ =>
  (θ_run Cert.KernelIdeal.defs _ _).mono (fun _ h => ⟨fun c => (h.1 c).2, h.2⟩) (Cert.KernelIdeal.Swap.run m g)

/-- and the reference. -/
theorem frame_reference : Cert.quiescent_ReferenceIdeal := fun m g _ => Cert.ReferenceIdeal.Whole.run m g

/-- If the devices' arguments are the row blocks of the reference's argument, their results are the
    column blocks of the reference's result. -/
theorem value : Cert.algebraic_KernelIdeal_ReferenceIdeal := fun m g m' g' _ hv =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.KernelIdeal.Swap.xOut_whole m _ hv c), (h.1 c).2⟩) (Cert.KernelIdeal.Swap.run m g),
    (θ_run Cert.ReferenceIdeal.defs _ _).mono (fun _ h => ⟨h.1 0, h.1 0⟩) (Cert.ReferenceIdeal.Whole.run m' g')⟩

/-- All claims. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
